-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x8x1024 : Shape := ⟨3, ![512, 8, 1024]⟩
abbrev S12x4096x1024 : Shape := ⟨3, ![12, 4096, 1024]⟩
abbrev S256 : Shape := ⟨1, ![256]⟩
abbrev S1024x256 : Shape := ⟨2, ![1024, 256]⟩
abbrev S1024 : Shape := ⟨1, ![1024]⟩
abbrev S1024x1024 : Shape := ⟨2, ![1024, 1024]⟩
abbrev S256x1024 : Shape := ⟨2, ![256, 1024]⟩
abbrev S4096x1024 : Shape := ⟨2, ![4096, 1024]⟩
abbrev S1x256 : Shape := ⟨2, ![1, 256]⟩
abbrev S1x1024 : Shape := ⟨2, ![1, 1024]⟩
abbrev S1x256x1024 : Shape := ⟨3, ![1, 256, 1024]⟩
abbrev S256x256 : Shape := ⟨2, ![256, 256]⟩
abbrev S256x1 : Shape := ⟨2, ![256, 1]⟩
abbrev S4096x12x1024 : Shape := ⟨3, ![4096, 12, 1024]⟩

abbrev nBuf : Space → Nat
  | .hbm => 29
  | .vmem => 16
  | .smem => 0
  | _ => 0

abbrev bufTy : (tb : Table) → Fin (tcTables nBuf tb) → BufTy
  | .hbm, ⟨0, _⟩ => ⟨S512x8x1024, .f32⟩
  | .hbm, ⟨1, _⟩ => ⟨S12x4096x1024, .f32⟩
  | .hbm, ⟨2, _⟩ => ⟨S256, .f32⟩
  | .hbm, ⟨3, _⟩ => ⟨S1024x256, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S256x1024, .f32⟩
  | .hbm, ⟨10, _⟩ => ⟨S256, .f32⟩
  | .hbm, ⟨11, _⟩ => ⟨S4096x1024, .f32⟩
  | .hbm, ⟨12, _⟩ => ⟨S4096x1024, .bf16⟩
  | .hbm, ⟨13, _⟩ => ⟨S1x256, .f32⟩
  | .hbm, ⟨14, _⟩ => ⟨S1x256, .bf16⟩
  | .hbm, ⟨15, _⟩ => ⟨S256x1024, .f32⟩
  | .hbm, ⟨16, _⟩ => ⟨S256x1024, .bf16⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1024x256, .f32⟩
  | .hbm, ⟨22, _⟩ => ⟨S1024x256, .bf16⟩
  | .hbm, ⟨23, _⟩ => ⟨S1024, .f32⟩
  | .hbm, ⟨24, _⟩ => ⟨S1x1024, .f32⟩
  | .hbm, ⟨25, _⟩ => ⟨S1x1024, .f32⟩
  | .hbm, ⟨26, _⟩ => ⟨S1x256, .f32⟩
  | .hbm, ⟨27, _⟩ => ⟨S12x4096x1024, .f32⟩
  | .hbm, ⟨28, _⟩ => ⟨S4096x12x1024, .f32⟩
  | .local _ .vmem, ⟨0, _⟩ => ⟨S256x1024, .bf16⟩
  | .local _ .vmem, ⟨1, _⟩ => ⟨S256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x256, .bf16⟩
  | .local _ .vmem, ⟨5, _⟩ => ⟨S256x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x256, .bf16⟩
  | .local _ .vmem, ⟨9, _⟩ => ⟨S1x1024, .f32⟩
  | .local _ .vmem, ⟨10, _⟩ => ⟨S1x1024, .f32⟩
  | .local _ .vmem, ⟨11, _⟩ => ⟨S1x256, .f32⟩
  | .local _ .vmem, ⟨12, _⟩ => ⟨S1x256x1024, .f32⟩
  | .local _ .vmem, ⟨13, _⟩ => ⟨S1x256x1024, .f32⟩
  | .local _ .vmem, ⟨14, _⟩ => ⟨S256x1024, .bf16⟩
  | .local _ .vmem, ⟨15, _⟩ => ⟨S256x256, .bf16⟩
  | _, _ => ⟨S512x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S512x8x1024 : Shape := ⟨3, ![512, 8, 1024]⟩
abbrev S12x4096x1024 : Shape := ⟨3, ![12, 4096, 1024]⟩
abbrev S256 : Shape := ⟨1, ![256]⟩
abbrev S1024x256 : Shape := ⟨2, ![1024, 256]⟩
abbrev S1024 : Shape := ⟨1, ![1024]⟩
abbrev S1024x1024 : Shape := ⟨2, ![1024, 1024]⟩
abbrev S256x1024 : Shape := ⟨2, ![256, 1024]⟩
abbrev S4096x1024 : Shape := ⟨2, ![4096, 1024]⟩
abbrev S4096x256 : Shape := ⟨2, ![4096, 256]⟩
abbrev S_ : Shape := ⟨0, ![]⟩
abbrev S1x4096x1024 : Shape := ⟨3, ![1, 4096, 1024]⟩
abbrev S1x1024 : Shape := ⟨2, ![1, 1024]⟩
abbrev S4096 : Shape := ⟨1, ![4096]⟩
abbrev S4096x1 : Shape := ⟨2, ![4096, 1]⟩
abbrev S1x256 : Shape := ⟨2, ![1, 256]⟩
abbrev S4096x12x1024 : Shape := ⟨3, ![4096, 12, 1024]⟩

abbrev nBuf : Space → Nat
  | .hbm => 82
  | .vmem => 0
  | .smem => 0
  | _ => 0

abbrev bufTy : (tb : Table) → Fin (tcTables nBuf tb) → BufTy
  | .hbm, ⟨0, _⟩ => ⟨S512x8x1024, .f32⟩
  | .hbm, ⟨1, _⟩ => ⟨S12x4096x1024, .f32⟩
  | .hbm, ⟨2, _⟩ => ⟨S256, .f32⟩
  | .hbm, ⟨3, _⟩ => ⟨S1024x256, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S256x1024, .f32⟩
  | .hbm, ⟨10, _⟩ => ⟨S256, .f32⟩
  | .hbm, ⟨11, _⟩ => ⟨S4096x1024, .f32⟩
  | .hbm, ⟨12, _⟩ => ⟨S4096x256, .f32⟩
  | .hbm, ⟨13, _⟩ => ⟨S_, .f32⟩
  | .hbm, ⟨14, _⟩ => ⟨S12x4096x1024, .f32⟩
  | .hbm, ⟨15, _⟩ => ⟨S_, .i32⟩
  | .hbm, ⟨16, _⟩ => ⟨S12x4096x1024, .f32⟩
  | .hbm, ⟨17, _⟩ => ⟨S1024x256, .f32⟩
  | .hbm, ⟨18, _⟩ => ⟨S1024, .f32⟩
  | .hbm, ⟨19, _⟩ => ⟨S1024x1024, .f32⟩
  | .hbm, ⟨20, _⟩ => ⟨S1024, .f32⟩
  | .hbm, ⟨21, _⟩ => ⟨S1024x1024, .f32⟩
  | .hbm, ⟨22, _⟩ => ⟨S1024, .f32⟩
  | .hbm, ⟨23, _⟩ => ⟨S256x1024, .f32⟩
  | .hbm, ⟨24, _⟩ => ⟨S256, .f32⟩
  | .hbm, ⟨25, _⟩ => ⟨S_, .i32⟩
  | .hbm, ⟨26, _⟩ => ⟨S4096x1024, .f32⟩
  | .hbm, ⟨27, _⟩ => ⟨S4096x256, .f32⟩
  | .hbm, ⟨28, _⟩ => ⟨S12x4096x1024, .f32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S1x4096x1024, .f32⟩
  | .hbm, ⟨34, _⟩ => ⟨S4096x1024, .f32⟩
  | .hbm, ⟨35, _⟩ => ⟨S256x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S1024x1024, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S1024x1024, .f32⟩
  | .hbm, ⟨48, _⟩ => ⟨S4096x1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S1024x256, .f32⟩
  | .hbm, ⟨71, _⟩ => ⟨S4096x256, .f32⟩
  | .hbm, ⟨72, _⟩ => ⟨S1x256, .f32⟩
  | .hbm, ⟨73, _⟩ => ⟨S4096x256, .f32⟩
  | .hbm, ⟨74, _⟩ => ⟨S4096x256, .f32⟩
  | .hbm, ⟨75, _⟩ => ⟨S1x4096x1024, .f32⟩
  | .hbm, ⟨76, _⟩ => ⟨S_, .i32⟩
  | .hbm, ⟨77, _⟩ => ⟨S_, .i32⟩
  | .hbm, ⟨78, _⟩ => ⟨S12x4096x1024, .f32⟩
  | .hbm, ⟨79, _⟩ => ⟨S_, .i32⟩
  | .hbm, ⟨80, _⟩ => ⟨S_, .i32⟩
  | .hbm, ⟨81, _⟩ => ⟨S4096x12x1024, .f32⟩
  | _, _ => ⟨S512x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_c : Ref sig .tc := ⟨.hbm, 15, rfl⟩
abbrev main_v3_0 : Ref sig .tc := ⟨.hbm, 16, rfl⟩
abbrev main_v3_1 : Ref sig .tc := ⟨.hbm, 17, rfl⟩
abbrev main_v3_2 : Ref sig .tc := ⟨.hbm, 18, rfl⟩
abbrev main_v3_3 : Ref sig .tc := ⟨.hbm, 19, rfl⟩
abbrev main_v3_4 : Ref sig .tc := ⟨.hbm, 20, rfl⟩
abbrev main_v3_5 : Ref sig .tc := ⟨.hbm, 21, rfl⟩
abbrev main_v3_6 : Ref sig .tc := ⟨.hbm, 22, rfl⟩
abbrev main_v3_7 : Ref sig .tc := ⟨.hbm, 23, rfl⟩
abbrev main_v3_8 : Ref sig .tc := ⟨.hbm, 24, rfl⟩
abbrev main_v3_9 : Ref sig .tc := ⟨.hbm, 25, rfl⟩
abbrev main_v3_10 : Ref sig .tc := ⟨.hbm, 26, rfl⟩
abbrev main_v3_11 : Ref sig .tc := ⟨.hbm, 27, rfl⟩
abbrev main_v3_12 : Ref sig .tc := ⟨.hbm, 28, rfl⟩
abbrev main_while0c_c_12 : Ref sig .tc := ⟨.hbm, 29, rfl⟩
abbrev main_while0c_v5 : Ref sig .tc := ⟨.hbm, 30, rfl⟩
abbrev main_while0b_call0_c : Ref sig .tc := ⟨.hbm, 31, rfl⟩
abbrev main_while0b_call0_c_0 : Ref sig .tc := ⟨.hbm, 32, rfl⟩
abbrev main_while0b_call0_v0 : Ref sig .tc := ⟨.hbm, 33, rfl⟩
abbrev main_while0b_v5 : Ref sig .tc := ⟨.hbm, 34, rfl⟩
abbrev main_while0b_v6 : Ref sig .tc := ⟨.hbm, 35, rfl⟩
abbrev main_while0b_v7 : Ref sig .tc := ⟨.hbm, 36, rfl⟩
abbrev main_while0b_v8 : Ref sig .tc := ⟨.hbm, 37, rfl⟩
abbrev main_while0b_v9 : Ref sig .tc := ⟨.hbm, 38, rfl⟩
abbrev main_while0b_v10 : Ref sig .tc := ⟨.hbm, 39, rfl⟩
abbrev main_while0b_v11 : Ref sig .tc := ⟨.hbm, 40, rfl⟩
abbrev main_while0b_v12 : Ref sig .tc := ⟨.hbm, 41, rfl⟩
abbrev main_while0b_v13 : Ref sig .tc := ⟨.hbm, 42, rfl⟩
abbrev main_while0b_v14 : Ref sig .tc := ⟨.hbm, 43, rfl⟩
abbrev main_while0b_v15 : Ref sig .tc := ⟨.hbm, 44, rfl⟩
abbrev main_while0b_v16 : Ref sig .tc := ⟨.hbm, 45, rfl⟩
abbrev main_while0b_v17 : Ref sig .tc := ⟨.hbm, 46, rfl⟩
abbrev main_while0b_v18 : Ref sig .tc := ⟨.hbm, 47, rfl⟩
abbrev main_while0b_v19 : Ref sig .tc := ⟨.hbm, 48, rfl⟩
abbrev main_while0b_v20 : Ref sig .tc := ⟨.hbm, 49, rfl⟩
abbrev main_while0b_v21 : Ref sig .tc := ⟨.hbm, 50, rfl⟩
abbrev main_while0b_v22 : Ref sig .tc := ⟨.hbm, 51, rfl⟩
abbrev main_while0b_v23 : Ref sig .tc := ⟨.hbm, 52, rfl⟩
abbrev main_while0b_cst_12 : Ref sig .tc := ⟨.hbm, 53, rfl⟩
abbrev main_while0b_v24 : Ref sig .tc := ⟨.hbm, 54, rfl⟩
abbrev main_while0b_v25 : Ref sig .tc := ⟨.hbm, 55, rfl⟩
abbrev main_while0b_cst_13 : Ref sig .tc := ⟨.hbm, 56, rfl⟩
abbrev main_while0b_v26 : Ref sig .tc := ⟨.hbm, 57, rfl⟩
abbrev main_while0b_cst_14 : Ref sig .tc := ⟨.hbm, 58, rfl⟩
abbrev main_while0b_v27 : Ref sig .tc := ⟨.hbm, 59, rfl⟩
abbrev main_while0b_v28 : Ref sig .tc := ⟨.hbm, 60, rfl⟩
abbrev main_while0b_v29 : Ref sig .tc := ⟨.hbm, 61, rfl⟩
abbrev main_while0b_v30 : Ref sig .tc := ⟨.hbm, 62, rfl⟩
abbrev main_while0b_v31 : Ref sig .tc := ⟨.hbm, 63, rfl⟩
abbrev main_while0b_v32 : Ref sig .tc := ⟨.hbm, 64, rfl⟩
abbrev main_while0b_cst_15 : Ref sig .tc := ⟨.hbm, 65, rfl⟩
abbrev main_while0b_v33 : Ref sig .tc := ⟨.hbm, 66, rfl⟩
abbrev main_while0b_v34 : Ref sig .tc := ⟨.hbm, 67, rfl⟩
abbrev main_while0b_v35 : Ref sig .tc := ⟨.hbm, 68, rfl⟩
abbrev main_while0b_v36 : Ref sig .tc := ⟨.hbm, 69, rfl⟩
abbrev main_while0b_v37 : Ref sig .tc := ⟨.hbm, 70, rfl⟩
abbrev main_while0b_v38 : Ref sig .tc := ⟨.hbm, 71, rfl⟩
abbrev main_while0b_v39 : Ref sig .tc := ⟨.hbm, 72, rfl⟩
abbrev main_while0b_v40 : Ref sig .tc := ⟨.hbm, 73, rfl⟩
abbrev main_while0b_v41 : Ref sig .tc := ⟨.hbm, 74, rfl⟩
abbrev main_while0b_call1_v0 : Ref sig .tc := ⟨.hbm, 75, rfl⟩
abbrev main_while0b_call1_c : Ref sig .tc := ⟨.hbm, 76, rfl⟩
abbrev main_while0b_call1_c_0 : Ref sig .tc := ⟨.hbm, 77, rfl⟩
abbrev main_while0b_v42 : Ref sig .tc := ⟨.hbm, 78, rfl⟩
abbrev main_while0b_c_16 : Ref sig .tc := ⟨.hbm, 79, rfl⟩
abbrev main_while0b_v43 : Ref sig .tc := ⟨.hbm, 80, rfl⟩
abbrev main_v4 : Ref sig .tc := ⟨.hbm, 81, rfl⟩

abbrev nD : Nat := 1
abbrev τ : Topo := Topo.v7x

variable {F : FTy → Type} [FloatOps F]

abbrev main_while0_count : Scf.Loop 32 := ⟨0#32, 12#32, 1#32⟩
-- ==== Proof.Model.lean ====
/-
  The decoder's mathematics for ONE row, over the extended reals: what a recurrent step makes of the row's hidden state,
  its embedded input and its noise. Both programs are read down to these functions.
-/
module

public import Idealize.ShloMosaic.Lib.Pointwise

@[expose] public section

noncomputable section

namespace Cert.Decoder

open Idealize.ShloMosaic

/-- The weights as the formulas use them: `wih`, `whh`, `wout`, `wemb` take (input lane, output lane). -/
structure Weights where
  wih : Fin 256 → Fin 1024 → EReal
  whh : Fin 1024 → Fin 1024 → EReal
  bh : Fin 1024 → EReal
  wout : Fin 1024 → Fin 1024 → EReal
  bout : Fin 1024 → EReal
  wemb : Fin 1024 → Fin 256 → EReal
  bemb : Fin 256 → EReal

/-- The value a row maximum starts from: the denotation of the pattern of `-∞`. -/
abbrev low : EReal := Ideal.ofBits .f32 0xFF800000#32

/-- The recurrent cell: `tanh (e·W_ih + h·W_hh + b)` at lane `j`. -/
def cell (W : Weights) (h : Fin 1024 → EReal) (e : Fin 256 → EReal) (j : Fin 1024) : EReal :=
  Ideal.tanh (((∑ k, e k * W.wih k j) + ∑ k, h k * W.whh k j) + W.bh j)

/-- The perturbed logits of a hidden state `h` under noise `g`. -/
def logit (W : Weights) (h g : Fin 1024 → EReal) (j : Fin 1024) : EReal :=
  ((∑ k, h k * W.wout k j) + W.bout j) + g j

/-- A row's largest entry. -/
def top (x : Fin 1024 → EReal) : EReal := Finset.univ.fold max low x

/-- The row shifted by its largest entry and exponentiated. -/
def expo (x : Fin 1024 → EReal) (j : Fin 1024) : EReal := Ideal.exp (x j - top x)

/-- A row divided by its sum. -/
def normed (p : Fin 1024 → EReal) (j : Fin 1024) : EReal := Ideal.div (p j) (∑ k, p k)

/-- The softmax of the perturbed logits. -/
def soft (W : Weights) (h g : Fin 1024 → EReal) : Fin 1024 → EReal := normed (expo (logit W h g))

/-- The embedding of a soft sample, the next step's input. -/
def embed (W : Weights) (x : Fin 1024 → EReal) (k : Fin 256) : EReal := (∑ j, x j * W.wemb j k) + W.bemb k

/-- The hidden state and the embedded input of a row before step `n`, from `h₀` and `e₀`, under the noise `g`. -/
def carried (W : Weights) (h₀ : Fin 1024 → EReal) (e₀ : Fin 256 → EReal) (g : ℕ → Fin 1024 → EReal) :
    ℕ → (Fin 1024 → EReal) × (Fin 256 → EReal)
  | 0 => (h₀, e₀)
  | n + 1 =>
    let p := carried W h₀ e₀ g n
    (cell W p.1 p.2, embed W (soft W (cell W p.1 p.2) (g n)))

/-- The row's soft sample at step `n`. -/
def sample (W : Weights) (h₀ : Fin 1024 → EReal) (e₀ : Fin 256 → EReal) (g : ℕ → Fin 1024 → EReal) (n : ℕ) :
    Fin 1024 → EReal :=
  soft W (cell W (carried W h₀ e₀ g n).1 (carried W h₀ e₀ g n).2) (g n)

/-- Before the first step the row carries its initial state. -/
theorem carried_zero (W : Weights) (h₀ : Fin 1024 → EReal) (e₀ : Fin 256 → EReal) (g : ℕ → Fin 1024 → EReal) :
    carried W h₀ e₀ g 0 = (h₀, e₀) := rfl

/-- A step hands on the new hidden state. -/
theorem carried_succ_fst (W : Weights) (h₀ : Fin 1024 → EReal) (e₀ : Fin 256 → EReal) (g : ℕ → Fin 1024 → EReal) (n : ℕ) :
    (carried W h₀ e₀ g (n + 1)).1 = cell W (carried W h₀ e₀ g n).1 (carried W h₀ e₀ g n).2 := rfl

/-- A step hands on the embedding of its sample. -/
theorem carried_succ_snd (W : Weights) (h₀ : Fin 1024 → EReal) (e₀ : Fin 256 → EReal) (g : ℕ → Fin 1024 → EReal) (n : ℕ) :
    (carried W h₀ e₀ g (n + 1)).2 = embed W (sample W h₀ e₀ g n) := rfl

/-- A maximum that starts from `low` is not changed by one more maximum with `low`. -/
theorem max_low_top (x : Fin 1024 → EReal) : max low (top x) = top x :=
  max_eq_right ((Finset.le_fold_max low).mpr (Or.inl le_rfl))

end Cert.Decoder

end
-- ==== Proof.Block.lean ====
/-
  What one grid point of the kernel computes, row by row: each value the body stores, read at an index, is the decoder's
  formula applied to the row of the blocks it loads. Over the extended reals a conversion of format is the identity.
-/
module

public import proofs.«01_k».proof.Proof.Model
public import proofs.«01_k».proof.Proof.Gen.KernelIdeal.Frame
public import Idealize.ShloMosaic.Lib.Pipeline.ValueKit

@[expose] public section

set_option maxRecDepth 16384

noncomputable section

namespace Cert.Decoder.Block

open Idealize.ShloMosaic Cert.KernelIdeal Cert.KernelIdeal.Gen Cert.Decoder

/-- The weights as the kernel's blocks hold them. -/
def wts (wih : FVec Ideal S256x1024 .bf16) (whh : FVec Ideal S1024x1024 .bf16) (bh : FVec Ideal S1x1024 .f32)
    (wout : FVec Ideal S1024x1024 .bf16) (bout : FVec Ideal S1x1024 .f32) (wemb : FVec Ideal S1024x256 .bf16)
    (bemb : FVec Ideal S1x256 .f32) : Weights where
  wih k j := wih (ix2 k j)
  whh k j := whh (ix2 k j)
  bh j := bh (ix2 0 j)
  wout k j := wout (ix2 k j)
  bout j := bout (ix2 0 j)
  wemb k j := wemb (ix2 k j)
  bemb j := bemb (ix2 0 j)

variable (e : FVec Ideal S256x256 .bf16) (h : FVec Ideal S256x1024 .bf16) (g : FVec Ideal S1x256x1024 .f32)
  (wih : FVec Ideal S256x1024 .bf16) (whh : FVec Ideal S1024x1024 .bf16) (bh : FVec Ideal S1x1024 .f32)
  (wout : FVec Ideal S1024x1024 .bf16) (bout : FVec Ideal S1x1024 .f32) (wemb : FVec Ideal S1024x256 .bf16)
  (bemb : FVec Ideal S1x256 .f32)

/-- The hidden state the body computes is the cell of the row. -/
theorem hidden_apply (r : Fin 256) (j : Fin 1024) :
    k0_pay7 (F := Ideal) e h wih whh bh (ix2 r j)
      = cell (wts wih whh bh wout bout wemb bemb) (fun k => h (ix2 r k)) (fun k => e (ix2 r k)) j := by
  unfold cell wts
  pointwise [k0_pay7]

/-- The exponentials the body computes are those of the row's perturbed logits, shifted by the row's maximum. -/
theorem expo_apply (r : Fin 256) (j : Fin 1024) :
    k0_pay8 (F := Ideal) e h wih whh bh wout bout g (ix2 r j)
      = expo (logit (wts wih whh bh wout bout wemb bemb) (fun j => k0_pay7 (F := Ideal) e h wih whh bh (ix2 r j))
          (fun j => g (ix3 0 r j))) j := by
  unfold expo top logit wts
  pointwise [k0_pay8]

/-- The block the body stores as output divides each row by its sum. -/
theorem out_apply (p : FVec Ideal S256x1024 .f32) (u : Fin 1) (r : Fin 256) (j : Fin 1024) :
    k0_pay2 (F := Ideal) p (ix3 u r j) = normed (fun j => p (ix2 r j)) j := by
  unfold normed
  pointwise [k0_pay2, k0_pay1]

/-- The next embedded input the body stores is the embedding of the normalised row. -/
theorem embed_apply (p : FVec Ideal S256x1024 .f32) (r : Fin 256) (j : Fin 256) :
    k0_pay4 (F := Ideal) p wemb bemb (ix2 r j)
      = embed (wts wih whh bh wout bout wemb bemb) (normed (fun j => p (ix2 r j))) j := by
  unfold embed normed wts
  pointwise [k0_pay4, k0_pay1]

/-- The hidden state is stored as it is. -/
theorem keep_apply (p : FVec Ideal S256x1024 .bf16) (r : Fin 256) (j : Fin 1024) :
    k0_pay3 (F := Ideal) p (ix2 r j) = p (ix2 r j) := by
  pointwise [k0_pay3]

/-- The first hidden state is the target's block. -/
theorem reset_hidden_apply (p : FVec Ideal S256x1024 .bf16) (r : Fin 256) (j : Fin 1024) :
    k0_pay5 (F := Ideal) p (ix2 r j) = p (ix2 r j) := by
  pointwise [k0_pay5]

/-- The first embedded input is the start row, the same for every row of the block. -/
theorem reset_input_apply (p : FVec Ideal S1x256 .bf16) (r : Fin 256) (j : Fin 256) :
    k0_pay6 (F := Ideal) p (ix2 r j) = p (ix2 0 j) := by
  pointwise [k0_pay6]

variable {W : Weights} (hW : wts wih whh bh wout bout wemb bemb = W)
include hW

/-- One step's new hidden state, at a row and a lane. -/
theorem step_hidden (r : Fin 256) (j : Fin 1024) :
    k0_pay3 (F := Ideal) (k0_pay7 (F := Ideal) e h wih whh bh) (ix2 r j)
      = cell W (fun k => h (ix2 r k)) (fun k => e (ix2 r k)) j := by
  rw [keep_apply, hidden_apply e h wih whh bh wout bout wemb bemb, hW]

/-- One step's exponentials, at a row and a lane. -/
theorem step_expo (r : Fin 256) (j : Fin 1024) :
    k0_pay8 (F := Ideal) e h wih whh bh wout bout g (ix2 r j)
      = expo (logit W (cell W (fun k => h (ix2 r k)) (fun k => e (ix2 r k))) (fun j => g (ix3 0 r j))) j := by
  rw [expo_apply e h g wih whh bh wout bout wemb bemb, hW]
  simp only [hidden_apply e h wih whh bh wout bout wemb bemb, hW]

/-- One step's soft sample, at a row and a lane. -/
theorem step_out (u : Fin 1) (r : Fin 256) (j : Fin 1024) :
    k0_pay2 (F := Ideal) (k0_pay8 (F := Ideal) e h wih whh bh wout bout g) (ix3 u r j)
      = soft W (cell W (fun k => h (ix2 r k)) (fun k => e (ix2 r k))) (fun j => g (ix3 0 r j)) j := by
  rw [out_apply]
  simp only [step_expo e h g wih whh bh wout bout wemb bemb hW]
  rfl

/-- One step's next embedded input, at a row and a lane. -/
theorem step_input (r : Fin 256) (j : Fin 256) :
    k0_pay4 (F := Ideal) (k0_pay8 (F := Ideal) e h wih whh bh wout bout g) wemb bemb (ix2 r j)
      = embed W (soft W (cell W (fun k => h (ix2 r k)) (fun k => e (ix2 r k))) (fun j => g (ix3 0 r j))) j := by
  rw [embed_apply wih whh bh wout bout wemb bemb, hW]
  simp only [step_expo e h g wih whh bh wout bout wemb bemb hW]
  rfl

end Cert.Decoder.Block

end
-- ==== Proof.Inputs.lean ====
/-
  The decoder's inputs read row by row: the weights, a row's first hidden state and first embedded input, and a row's
  noise, as functions of the eleven arguments. The two programs take their arguments at these shapes.
-/
module

public import proofs.«01_k».proof.Proof.Model

@[expose] public section

noncomputable section

namespace Cert.Decoder

open Idealize.ShloMosaic

/-- The weights of the decoder: every matrix argument is stored (output lane, input lane), and the cell's two biases enter
    as their sum. -/
def weights (a3 : FVec Ideal ⟨2, ![1024, 256]⟩ .f32) (a4 : FVec Ideal ⟨1, ![1024]⟩ .f32)
    (a5 : FVec Ideal ⟨2, ![1024, 1024]⟩ .f32) (a6 : FVec Ideal ⟨1, ![1024]⟩ .f32)
    (a7 : FVec Ideal ⟨2, ![1024, 1024]⟩ .f32) (a8 : FVec Ideal ⟨1, ![1024]⟩ .f32)
    (a9 : FVec Ideal ⟨2, ![256, 1024]⟩ .f32) (a10 : FVec Ideal ⟨1, ![256]⟩ .f32) : Weights where
  wih k j := a3 (ix2 j k)
  whh k j := a5 (ix2 j k)
  bh j := (a4 (ix1 j) : EReal) + a6 (ix1 j)
  wout k j := a7 (ix2 j k)
  bout j := a8 (ix1 j)
  wemb k j := a9 (ix2 j k)
  bemb j := a10 (ix1 j)

/-- Row `r`'s first hidden state: the target's row, whose two leading axes are merged. -/
def start (a0 : FVec Ideal ⟨3, ![512, 8, 1024]⟩ .f32) (r : Fin 4096) (k : Fin 1024) : EReal :=
  a0 (ix3 ⟨r.val / 8, by omega⟩ ⟨r.val % 8, by omega⟩ k)

/-- Every row's first embedded input. -/
def first (a2 : FVec Ideal ⟨1, ![256]⟩ .f32) (k : Fin 256) : EReal := a2 (ix1 k)

/-- Row `r`'s noise at step `n`, nothing being added past the last step. -/
def noise (a1 : FVec Ideal ⟨3, ![12, 4096, 1024]⟩ .f32) (r : Fin 4096) (n : ℕ) (j : Fin 1024) : EReal :=
  if h : n < 12 then a1 (ix3 ⟨n, h⟩ r j) else 0

/-- The noise at one of the twelve steps. -/
theorem noise_of_lt (a1 : FVec Ideal ⟨3, ![12, 4096, 1024]⟩ .f32) (r : Fin 4096) (n : ℕ) (h : n < 12) (j : Fin 1024) :
    noise a1 r n j = a1 (ix3 ⟨n, h⟩ r j) := dif_pos h

/-- THE RESULT: at row, step and lane the row's soft sample at that step. -/
def result (a0 : FVec Ideal ⟨3, ![512, 8, 1024]⟩ .f32) (a1 : FVec Ideal ⟨3, ![12, 4096, 1024]⟩ .f32)
    (a2 : FVec Ideal ⟨1, ![256]⟩ .f32) (W : Weights) : FVec Ideal ⟨3, ![4096, 12, 1024]⟩ .f32 :=
  fun i => sample W (start a0 (i 0)) (first a2) (noise a1 (i 0)) (i 1).val (i 2)

/-- The result at an index of coordinates. -/
theorem result_apply (a0 : FVec Ideal ⟨3, ![512, 8, 1024]⟩ .f32) (a1 : FVec Ideal ⟨3, ![12, 4096, 1024]⟩ .f32)
    (a2 : FVec Ideal ⟨1, ![256]⟩ .f32) (W : Weights) (r : Fin 4096) (n : Fin 12) (j : Fin 1024) :
    result a0 a1 a2 W (ix3 r n j) = sample W (start a0 r) (first a2) (noise a1 r) n.val j := rfl

end Cert.Decoder

end
-- ==== Proof.Entry.lean ====
/-
  What the kernel's blocks hold at a grid point `t`: the blocks of the arrays as the operations before the kernel leave
  them, read down to the arguments. Point `t` works on step `t mod 12` of the 256 rows from `256 · (t / 12)` on.
-/
module

public import proofs.«01_k».proof.Proof.Block
public import proofs.«01_k».proof.Proof.Inputs
public import Idealize.ShloMosaic.Lib.StableHlo.ReadAt

@[expose] public section

set_option maxRecDepth 16384

noncomputable section

namespace Cert.Decoder.Entry

open Idealize.ShloMosaic Idealize.ShloMosaic.TcCoe Cert.KernelIdeal Cert.KernelIdeal.Gen Cert.Decoder

variable (m : (ℓ : Loc nD τ sig) → Buf (Elt Ideal) ℓ) (c : Dev nD)

/-- The weights among the kernel program's arguments. -/
abbrev W : Weights :=
  weights (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7)) (m ((c.tc : Thread nD τ).loc main_arg8))
    (m ((c.tc : Thread nD τ).loc main_arg9)) (m ((c.tc : Thread nD τ).loc main_arg10))

/-- The rows' first hidden states. -/
abbrev H₀ : Fin 4096 → Fin 1024 → EReal := start (m ((c.tc : Thread nD τ).loc main_arg0))

/-- The rows' first embedded input. -/
abbrev E₀ : Fin 256 → EReal := first (m ((c.tc : Thread nD τ).loc main_arg2))

/-- The rows' noise. -/
abbrev N : Fin 4096 → ℕ → Fin 1024 → EReal := noise (m ((c.tc : Thread nD τ).loc main_arg1))

/-! ## The arrays the kernel starts from -/

/-- The rows' first hidden states, the target reshaped. -/
theorem arr_target (r : Fin 4096) (k : Fin 1024) : V m c main_v1 (ix2 r k) = H₀ m c r k := by
  unfold H₀ start
  unfold V; after_reads_at

/-- The start row. -/
theorem arr_sos (r : Fin 1) (k : Fin 256) : V m c main_v3 (ix2 r k) = E₀ m c k := by
  unfold E₀ first
  unfold V; after_reads_at

/-- The transposed input matrix of the cell. -/
theorem arr_wih (k : Fin 256) (j : Fin 1024) : V m c main_v5 (ix2 k j) = (W m c).wih k j := by
  unfold W weights
  unfold V; after_reads_at

/-- The transposed recurrent matrix of the cell. -/
theorem arr_whh (k : Fin 1024) (j : Fin 1024) : V m c main_v7 (ix2 k j) = (W m c).whh k j := by
  unfold W weights
  unfold V; after_reads_at

/-- The transposed output matrix. -/
theorem arr_wout (k : Fin 1024) (j : Fin 1024) : V m c main_v9 (ix2 k j) = (W m c).wout k j := by
  unfold W weights
  unfold V; after_reads_at

/-- The transposed embedding matrix. -/
theorem arr_wemb (k : Fin 1024) (j : Fin 256) : V m c main_v11 (ix2 k j) = (W m c).wemb k j := by
  unfold W weights
  unfold V; after_reads_at

/-- The sum of the cell's two biases. -/
theorem arr_bh (u : Fin 1) (j : Fin 1024) : V m c main_v13 (ix2 u j) = (W m c).bh j := by
  unfold W weights
  unfold V; after_reads_at

/-- The output bias. -/
theorem arr_bout (u : Fin 1) (j : Fin 1024) : V m c main_v14 (ix2 u j) = (W m c).bout j := by
  unfold W weights
  unfold V; after_reads_at

/-- The embedding bias. -/
theorem arr_bemb (u : Fin 1) (j : Fin 256) : V m c main_v15 (ix2 u j) = (W m c).bemb j := by
  unfold W weights
  unfold V; after_reads_at

/-! ## Where a block lies -/

/-- Point `t` takes the target's block number `t / 12`. -/
theorem idx0 : ∀ t : Fin grid0.N, win0_0.index t = ![t.val / 12, 0] := by decide +kernel
/-- Point `t` takes the noise of step `t mod 12` for block `t / 12`. -/
theorem idx1 : ∀ t : Fin grid0.N, win0_1.index t = ![t.val % 12, t.val / 12, 0] := by decide +kernel
/-- Every point takes the whole start row. -/
theorem idx2 : ∀ t : Fin grid0.N, win0_2.index t = ![0, 0] := by decide +kernel
/-- Every point takes the whole input matrix. -/
theorem idx3 : ∀ t : Fin grid0.N, win0_3.index t = ![0, 0] := by decide +kernel
/-- Every point takes the whole recurrent matrix. -/
theorem idx4 : ∀ t : Fin grid0.N, win0_4.index t = ![0, 0] := by decide +kernel
/-- Every point takes the whole output matrix. -/
theorem idx5 : ∀ t : Fin grid0.N, win0_5.index t = ![0, 0] := by decide +kernel
/-- Every point takes the whole embedding matrix. -/
theorem idx6 : ∀ t : Fin grid0.N, win0_6.index t = ![0, 0] := by decide +kernel
/-- Every point takes the whole bias of the cell. -/
theorem idx7 : ∀ t : Fin grid0.N, win0_7.index t = ![0, 0] := by decide +kernel
/-- Every point takes the whole output bias. -/
theorem idx8 : ∀ t : Fin grid0.N, win0_8.index t = ![0, 0] := by decide +kernel
/-- Every point takes the whole embedding bias. -/
theorem idx9 : ∀ t : Fin grid0.N, win0_9.index t = ![0, 0] := by decide +kernel
/-- Point `t` writes step `t mod 12` of block `t / 12`. -/
theorem idx10 : ∀ t : Fin grid0.N, win0_10.index t = ![t.val % 12, t.val / 12, 0] := by decide +kernel

/-! ## What the blocks hold -/

variable (t : Fin cfg0.N)

/-- The target's block holds its rows' first hidden states. -/
theorem blk_target (r : Fin 256) (k : Fin 1024) (R : Fin 4096) (hR : R.val = t.val / 12 * 256 + r.val) :
    iblk m c 0 t (ix2 r k) = H₀ m c R k := by
  rw [← arr_target m c R]
  blk_ext [iblk, idx0 t]

/-- The noise block holds its rows' noise at the point's step. -/
theorem blk_noise (u : Fin 1) (r : Fin 256) (j : Fin 1024) (R : Fin 4096) (hR : R.val = t.val / 12 * 256 + r.val) :
    iblk m c 1 t (ix3 u r j) = N m c R (t.val % 12) j := by
  have hS : t.val % 12 < 12 := Nat.mod_lt _ (by decide)
  rw [N, noise_of_lt _ R _ hS]
  rw [← V_main_arg1 m c]
  blk_ext [iblk, idx1 t]

/-- The start row's block is the start row. -/
theorem blk_sos (u : Fin 1) (k : Fin 256) : iblk m c 2 t (ix2 u k) = E₀ m c k := by
  rw [← arr_sos m c u]
  blk_ext [iblk, idx2 t]

/-- The blocks of the weights hold the weights. -/
theorem blk_weights :
    Block.wts (iblk m c 3 t) (iblk m c 4 t) (iblk m c 7 t) (iblk m c 5 t) (iblk m c 8 t) (iblk m c 6 t) (iblk m c 9 t)
      = W m c := by
  have e3 : ∀ (k : Fin 256) (j : Fin 1024), iblk m c 3 t (ix2 k j) = (W m c).wih k j := fun k j => by
    rw [← arr_wih m c k j]; blk_ext [iblk, idx3 t]
  have e4 : ∀ (k : Fin 1024) (j : Fin 1024), iblk m c 4 t (ix2 k j) = (W m c).whh k j := fun k j => by
    rw [← arr_whh m c k j]; blk_ext [iblk, idx4 t]
  have e5 : ∀ (k : Fin 1024) (j : Fin 1024), iblk m c 5 t (ix2 k j) = (W m c).wout k j := fun k j => by
    rw [← arr_wout m c k j]; blk_ext [iblk, idx5 t]
  have e6 : ∀ (k : Fin 1024) (j : Fin 256), iblk m c 6 t (ix2 k j) = (W m c).wemb k j := fun k j => by
    rw [← arr_wemb m c k j]; blk_ext [iblk, idx6 t]
  have e7 : ∀ (j : Fin 1024), iblk m c 7 t (ix2 (0 : Fin 1) j) = (W m c).bh j := fun j => by
    rw [← arr_bh m c 0 j]; blk_ext [iblk, idx7 t]
  have e8 : ∀ (j : Fin 1024), iblk m c 8 t (ix2 (0 : Fin 1) j) = (W m c).bout j := fun j => by
    rw [← arr_bout m c 0 j]; blk_ext [iblk, idx8 t]
  have e9 : ∀ (j : Fin 256), iblk m c 9 t (ix2 (0 : Fin 1) j) = (W m c).bemb j := fun j => by
    rw [← arr_bemb m c 0 j]; blk_ext [iblk, idx9 t]
  generalize W m c = w at *
  obtain ⟨a, b, d, f, p, q, s⟩ := w
  unfold Block.wts
  congr 1
  · funext k j; exact e3 k j
  · funext k j; exact e4 k j
  · funext j; exact e7 j
  · funext k j; exact e5 k j
  · funext j; exact e8 j
  · funext k j; exact e6 k j
  · funext j; exact e9 j

end Cert.Decoder.Entry

end
-- ==== Proof.Steps.lean ====
/-
  The kernel point by point: after point `t` the two carried buffers hold, in each of their 256 rows, what the decoder's row
  carries after step `t mod 12`, and the output block holds that step's soft sample. The first point of a run of twelve
  starts the rows anew; every other one goes on from the point before.
-/
module

public import proofs.«01_k».proof.Proof.Entry
public import Idealize.ShloMosaic.Lib.Pipeline.ReadBack

@[expose] public section

set_option maxRecDepth 16384

noncomputable section

namespace Cert.Decoder.Steps

open Idealize.ShloMosaic Idealize.ShloMosaic.TcCoe Cert.KernelIdeal Cert.KernelIdeal.Gen Cert.Decoder Cert.Decoder.Entry

variable (m : (ℓ : Loc nD τ sig) → Buf (Elt Ideal) ℓ) (c : Dev nD) (t : Fin cfg0.N)

/-- The hidden block point `t` computes from. -/
def hin : FVec Ideal S256x1024 .bf16 :=
  if t.val % 12 = 0 then k0_pay5 (F := Ideal) (iblk m c 0 t)
  else (outsAt0 m c (t.val - 1) (Nat.lt_of_le_of_lt (Nat.sub_le _ _) t.isLt)).2.1

/-- The embedded input block point `t` computes from. -/
def ein : FVec Ideal S256x256 .bf16 :=
  if t.val % 12 = 0 then k0_pay6 (F := Ideal) (iblk m c 2 t)
  else (outsAt0 m c (t.val - 1) (Nat.lt_of_le_of_lt (Nat.sub_le _ _) t.isLt)).2.2

/-- The output block of a point, of the blocks it computes from. -/
theorem out_eq (y : S1x256x1024.Idx) : (outsAt0 m c t.val t.isLt).1 y
    = k0_pay2 (F := Ideal) (k0_pay8 (F := Ideal) (ein m c t) (hin m c t) (iblk m c 3 t) (iblk m c 4 t) (iblk m c 7 t)
        (iblk m c 5 t) (iblk m c 8 t) (iblk m c 1 t)) y := by
  unfold hin ein
  by_cases h0 : t.val % 12 = 0
  · rw [if_pos h0, if_pos h0, outsAt0_A m c t h0]
    frame_out
  · rw [if_neg h0, if_neg h0, outsAt0_B m c t h0]
    frame_out
    simp only [read_unread_whole]

/-- The hidden block a point leaves, of the blocks it computes from. -/
theorem hidden_eq (y : S256x1024.Idx) : (outsAt0 m c t.val t.isLt).2.1 y
    = k0_pay3 (F := Ideal) (k0_pay7 (F := Ideal) (ein m c t) (hin m c t) (iblk m c 3 t) (iblk m c 4 t) (iblk m c 7 t)) y := by
  unfold hin ein
  by_cases h0 : t.val % 12 = 0
  · rw [if_pos h0, if_pos h0, outsAt0_A m c t h0]
    frame_out
  · rw [if_neg h0, if_neg h0, outsAt0_B m c t h0]
    frame_out
    simp only [read_unread_whole]

/-- The embedded input block a point leaves, of the blocks it computes from. -/
theorem input_eq (y : S256x256.Idx) : (outsAt0 m c t.val t.isLt).2.2 y
    = k0_pay4 (F := Ideal) (k0_pay8 (F := Ideal) (ein m c t) (hin m c t) (iblk m c 3 t) (iblk m c 4 t) (iblk m c 7 t)
        (iblk m c 5 t) (iblk m c 8 t) (iblk m c 1 t)) (iblk m c 6 t) (iblk m c 9 t) y := by
  unfold hin ein
  by_cases h0 : t.val % 12 = 0
  · rw [if_pos h0, if_pos h0, outsAt0_A m c t h0]
    frame_out
  · rw [if_neg h0, if_neg h0, outsAt0_B m c t h0]
    frame_out
    simp only [read_unread_whole]

/-- What row `R` carries before step `n`. -/
abbrev before (R : Fin 4096) (n : ℕ) : (Fin 1024 → EReal) × (Fin 256 → EReal) :=
  carried (W m c) (H₀ m c R) (E₀ m c) (N m c R) n

/-- The array row that row `r` of a point's blocks stands for. -/
def row (r : Fin 256) : Fin 4096 :=
  ⟨t.val / 12 * 256 + r.val, by
    have h1 : t.val < 192 := Nat.lt_of_lt_of_eq t.isLt N_0
    have h2 := r.isLt
    omega⟩

/-- A point whose blocks hold what the rows carry before its step leaves what they carry after it. -/
theorem leaves (r : Fin 256)
    (hh : ∀ k, hin m c t (ix2 r k) = (before m c (row t r) (t.val % 12)).1 k)
    (he : ∀ k, ein m c t (ix2 r k) = (before m c (row t r) (t.val % 12)).2 k) :
    (∀ j, (outsAt0 m c t.val t.isLt).2.1 (ix2 r j) = (before m c (row t r) (t.val % 12 + 1)).1 j)
      ∧ (∀ j, (outsAt0 m c t.val t.isLt).2.2 (ix2 r j) = (before m c (row t r) (t.val % 12 + 1)).2 j)
      ∧ ∀ (u : Fin 1) (j : Fin 1024), (outsAt0 m c t.val t.isLt).1 (ix3 u r j)
          = sample (W m c) (H₀ m c (row t r)) (E₀ m c) (N m c (row t r)) (t.val % 12) j := by
  have hh' := funext hh
  have he' := funext he
  have hg : (fun j => iblk m c 1 t (ix3 0 r j)) = N m c (row t r) (t.val % 12) :=
    funext fun j => blk_noise m c t 0 r j (row t r) rfl
  refine ⟨fun j => ?_, fun j => ?_, fun u j => ?_⟩
  · rw [hidden_eq m c t, Block.step_hidden _ _ _ _ _ _ _ _ _ (blk_weights m c t), hh', he']
    rfl
  · rw [input_eq m c t, Block.step_input _ _ _ _ _ _ _ _ _ _ (blk_weights m c t), hh', he', hg]
    rfl
  · rw [out_eq m c t, Block.step_out _ _ _ _ _ _ _ _ _ _ (blk_weights m c t), hh', he', hg]
    rfl

/-- Before every point the blocks it computes from hold what the rows carry before its step. -/
theorem enters : ∀ (n : ℕ) (hn : n < cfg0.N) (r : Fin 256),
    (∀ k, hin m c ⟨n, hn⟩ (ix2 r k) = (before m c (row ⟨n, hn⟩ r) (n % 12)).1 k)
      ∧ ∀ k, ein m c ⟨n, hn⟩ (ix2 r k) = (before m c (row ⟨n, hn⟩ r) (n % 12)).2 k := by
  intro n
  induction n with
  | zero =>
    intro hn r
    refine ⟨fun k => ?_, fun k => ?_⟩
    · unfold hin
      rw [if_pos (Nat.zero_mod 12), Block.reset_hidden_apply, blk_target m c _ r k (row ⟨0, hn⟩ r) rfl]
      rfl
    · unfold ein
      rw [if_pos (Nat.zero_mod 12), Block.reset_input_apply, blk_sos]
      rfl
  | succ n ih =>
    intro hn r
    by_cases h0 : (n + 1) % 12 = 0
    · refine ⟨fun k => ?_, fun k => ?_⟩
      · unfold hin
        rw [if_pos h0, Block.reset_hidden_apply, blk_target m c _ r k (row ⟨n + 1, hn⟩ r) rfl, h0]
        rfl
      · unfold ein
        rw [if_pos h0, Block.reset_input_apply, blk_sos, h0]
        rfl
    · have hn' : n < cfg0.N := Nat.lt_of_succ_lt hn
      have hl := leaves m c ⟨n, hn'⟩ r (ih hn' r).1 (ih hn' r).2
      have hr : row ⟨n + 1, hn⟩ r = row ⟨n, hn'⟩ r := Fin.ext (by
        show (n + 1) / 12 * 256 + r.val = n / 12 * 256 + r.val
        have : (n + 1) / 12 = n / 12 := by omega
        rw [this])
      have hs : (n + 1) % 12 = n % 12 + 1 := by omega
      refine ⟨fun k => ?_, fun k => ?_⟩
      · unfold hin
        rw [if_neg h0, hr, hs]
        exact hl.1 k
      · unfold ein
        rw [if_neg h0, hr, hs]
        exact hl.2.1 k

/-- The output block of point `t` is the soft sample of step `t mod 12`, row by row. -/
theorem out_point (u : Fin 1) (r : Fin 256) (j : Fin 1024) : (outsAt0 m c t.val t.isLt).1 (ix3 u r j)
    = sample (W m c) (H₀ m c (row t r)) (E₀ m c) (N m c (row t r)) (t.val % 12) j :=
  (leaves m c t r (enters m c t.val t.isLt r).1 (enters m c t.val t.isLt r).2).2.2 u j

end Cert.Decoder.Steps

end
-- ==== Proof.Written.lean ====
/-
  The kernel's result: the written blocks tile the step-major array, which therefore holds every row's soft samples; the
  closing transpose makes it row-major.
-/
module

public import proofs.«01_k».proof.Proof.Steps
public import Idealize.ShloMosaic.Lib.Claim

@[expose] public section

set_option maxRecDepth 16384

noncomputable section

namespace Cert.Decoder.Written

open Idealize.ShloMosaic Idealize.ShloMosaic.TcCoe Idealize.SL.Sem Cert.KernelIdeal Cert.KernelIdeal.Gen Cert.Decoder Cert.Decoder.Entry

variable (m : (ℓ : Loc nD τ sig) → Buf (Elt Ideal) ℓ) (c : Dev nD)

/-- The soft samples, step by step. -/
def samples : FVec Ideal S12x4096x1024 .f32 :=
  fun i => sample (W m c) (H₀ m c (i 1)) (E₀ m c) (N m c (i 1)) (i 0).val (i 2)

/-- The array the kernel writes holds the soft samples. -/
theorem arr_out : (dats m 0 c).arrAt 10 cfg0.N = samples m c := by
  refine (dats m 0 c).arrAt_eq_of_covers 10 _ (by decide +kernel) fun t hf y => ?_
  blk_simp
  rw [after0_10]
  idx_vars y
  have hs : t.val % 12 < 12 := Nat.mod_lt _ (by decide)
  have hx : ((View.whole main_v16).slice (win0_10.rect t)).emb (ix3 y0 y1 y2)
      = (ix3 ⟨t.val % 12, hs⟩ (Steps.row t y1) y2 : S12x4096x1024.Idx) := by
    blk_ext [idx10 t, Steps.row]
  rw [hx, Steps.out_point m c t]
  rfl

/-- The kernel program's result, of its arguments. -/
abbrev res : FVec Ideal S4096x12x1024 .f32 :=
  result (m ((c.tc : Thread nD τ).loc main_arg0)) (m ((c.tc : Thread nD τ).loc main_arg1))
    (m ((c.tc : Thread nD τ).loc main_arg2)) (W m c)

/-- The transposed array is the result. -/
theorem tail_out : Pipeline.afterTail₀ cfgs (dats m) 0 (V0 m) [hostOps1] c main_v17 = res m c := by
  have e : Pipeline.afterTail₀ cfgs (dats m) 0 (V0 m) [hostOps1] c main_v17
      = transpose S4096x12x1024 [1, 0, 2] ((dats m 0 c).arrAt 10 cfg0.N) transposes_S12x4096x1024_S4096x12x1024_1_0_2 := by
    unfold Pipeline.afterTail₀
    unfold hostOps1
    after_reads_simp
    exact congrArg (fun x => transpose S4096x12x1024 [1, 0, 2] x transposes_S12x4096x1024_S4096x12x1024_1_0_2)
      (Pipeline.withArrays_arr spec0 winFacts0.arr_inj c (V0 m c) (fun w => (dats m 0 c).arrAt w cfg0.N) 10)
  rw [e, arr_out]
  funext i
  idx_vars i
  unfold samples
  pointwise
  rfl

/-- Every run of the kernel program ends with the result at its place and the arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v17) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
      ⟨((h.1 c).2 main_v17 (Pipeline.mem_restRefs_of main_v17 (by decide) (by decide))).trans (tail_out m c), h.2 c⟩)
    (θ_run_and (run_main m ρ) (unchanged m ρ))

end Cert.Decoder.Written

end
-- ==== Proof.RefStep.lean ====
/-
  One trip of the reference's loop, row by row: each value it computes, read at an index, is the decoder's formula applied
  to the row of the state the trip starts from.
-/
module

public import proofs.«01_k».proof.Proof.Inputs
public import proofs.«01_k».proof.Proof.Gen.ReferenceIdeal.Step

@[expose] public section

set_option maxRecDepth 16384

noncomputable section

namespace Cert.Decoder.RefStep

open Idealize.ShloMosaic Cert.ReferenceIdeal Cert.ReferenceIdeal.Gen Cert.ReferenceIdeal.Step Cert.Decoder

/-- The weights a state of the loop holds. -/
abbrev wts (s : State Ideal) : Weights :=
  weights s.main_v3_1 s.main_v3_2 s.main_v3_3 s.main_v3_4 s.main_v3_5 s.main_v3_6 s.main_v3_7 s.main_v3_8

variable (n : ℕ) (s : State Ideal)

/-- Row `r` of the state's hidden array. -/
abbrev hrow (r : Fin 4096) : Fin 1024 → EReal := fun k => s.main_v3_10 (ix2 r k)

/-- Row `r` of the state's embedded input. -/
abbrev erow (r : Fin 4096) : Fin 256 → EReal := fun k => s.main_v3_11 (ix2 r k)

/-- Row `r` of the state's noise at step `n`. -/
abbrev grow (r : Fin 4096) : Fin 1024 → EReal := noise s.main_v3_0 r n

/-- Where the trip's slices start. -/
abbrev starts : Fin 3 → Int := fun k =>
  BitVec.toInt (![constantI S_ 32 (BitVec.ofNat 32 n), constantI S_ 32 0#32, constantI S_ 32 0#32] k (Shape.Idx.first h_S_))

/-- The trip's number, clamped into the twelve steps, is itself. -/
theorem clamp_eq : ∀ k : Fin 12, (min (max (BitVec.ofNat 32 k.val).toInt 0) ((12 - 1 : Nat) : Int)).toNat = k.val := by decide

/-- The slice starts at the trip's step. -/
theorem start_step (hn : n < 12) (h : S1x4096x1024.rank = S12x4096x1024.rank) :
    Host.clampedStart S12x4096x1024 S1x4096x1024 h (starts n) 0 = n := clamp_eq ⟨n, hn⟩

/-- The slice starts at the first row. -/
theorem start_row (h : S1x4096x1024.rank = S12x4096x1024.rank) :
    Host.clampedStart S12x4096x1024 S1x4096x1024 h (starts n) 1 = 0 :=
  Host.clampedStart_of_le h (starts n) 1 0 rfl (by show 0 + 4096 ≤ 4096; omega)

/-- The slice starts at the first lane. -/
theorem start_lane (h : S1x4096x1024.rank = S12x4096x1024.rank) :
    Host.clampedStart S12x4096x1024 S1x4096x1024 h (starts n) 2 = 0 :=
  Host.clampedStart_of_le h (starts n) 2 0 rfl (by show 0 + 1024 ≤ 1024; omega)

/-- The slice of the noise is the noise of the trip's step. -/
theorem slice_apply (hn : n < 12) (r : Fin 4096) (j : Fin 1024) : b3 n s (ix2 r j) = grow n s r j := by
  rw [grow, noise_of_lt _ r n hn]
  pointwise [b3, b2, b1, b0]
  simp only [start_step n hn, start_row n, start_lane n, Nat.zero_add]

/-- The new hidden state. -/
theorem hidden_apply (r : Fin 4096) (j : Fin 1024) : b15 n s (ix2 r j) = cell (wts s) (hrow s r) (erow s r) j := by
  unfold cell wts weights
  pointwise [b15, b14, b13, b12, b11, b10, b9, b8, b7, b6, b5, b4]
  exact congrArg Ideal.tanh ((add_assoc _ _ _).trans (add_add_add_comm _ _ _ _))

/-- A quotient by one is the number itself. -/
theorem div_one_eq (x : EReal) : Ideal.div x 1 = x := by
  simp [Ideal.div]

/-- The perturbed logits, divided by one. -/
theorem logit_apply (hn : n < 12) (r : Fin 4096) (j : Fin 1024) :
    b24 n s (ix2 r j) = logit (wts s) (fun k => b15 n s (ix2 r k)) (grow n s r) j := by
  rw [← funext (slice_apply n s hn r)]
  unfold logit wts weights
  pointwise [b24, b23, b22, b21, b20, b19, b18, b17, b16]
  exact div_one_eq _

/-- The maximum over a row. -/
theorem top_apply (r : Fin 4096) : b26 n s (ix1 r) = top (fun k => b24 n s (ix2 r k)) := by
  unfold top
  pointwise [b26, b25]

/-- An array joined with the lowest number, at a row. -/
theorem join_apply (x : FVec Ideal S4096 .f32) (r : Fin 4096) : maximumf (b28 n s) x (ix1 r) = max low (x (ix1 r)) := by
  unfold low
  pointwise [b28, b27]

/-- The maximum over a row, joined once more with the lowest number. -/
theorem joined_apply (r : Fin 4096) : b29 n s (ix1 r) = top (fun k => b24 n s (ix2 r k)) := by
  rw [← max_low_top, ← top_apply n s r]
  exact join_apply n s (b26 n s) r

/-- The shifted exponentials. -/
theorem expo_apply (r : Fin 4096) (j : Fin 1024) : b33 n s (ix2 r j) = expo (fun k => b24 n s (ix2 r k)) j := by
  unfold expo
  rw [← joined_apply n s r]
  pointwise [b33, b32, b31, b30]

/-- The quotient by the row's sum. -/
theorem soft_apply (r : Fin 4096) (j : Fin 1024) : b38 n s (ix2 r j) = normed (fun k => b33 n s (ix2 r k)) j := by
  unfold normed
  pointwise [b38, b37, b36, b35, b34]

/-- The next embedded input. -/
theorem embed_apply (r : Fin 4096) (j : Fin 256) : b43 n s (ix2 r j) = embed (wts s) (fun k => b38 n s (ix2 r k)) j := by
  unfold embed wts weights
  pointwise [b43, b42, b41, b40, b39]

/-- The trip writes its soft samples at its step, and leaves the other steps. -/
theorem update_apply (hn : n < 12) (a : Fin 12) (r : Fin 4096) (j : Fin 1024) :
    b47 n s (ix3 a r j) = if a.val = n then b38 n s (ix2 r j) else s.main_v3_12 (ix3 a r j) := by
  pointwise [b47, b46, b45, b44]
  have q : (n ≤ a.val ∧ a.val < n + 1) ↔ a.val = n := by omega
  simp only [start_step n hn, start_row n, start_lane n, Nat.zero_le, and_true, true_and, q, Nat.sub_zero]
  split <;> rfl

end Cert.Decoder.RefStep

end
-- ==== Proof.RefRun.lean ====
/-
  The reference's run stated over its loop's states: a valuation is read as a state, one trip of the run takes it to the
  next state, and so the run's result is that of the state after the twelfth trip.
-/
module

public import proofs.«01_k».proof.Proof.Gen.ReferenceIdeal.Run
public import proofs.«01_k».proof.Proof.Gen.ReferenceIdeal.Step

@[expose] public section

set_option maxRecDepth 16384

noncomputable section

namespace Cert.Decoder.RefRun

open Idealize.ShloMosaic Idealize.ShloMosaic.TcCoe Idealize.SL.Sem Idealize.ShloMosaic.StableHlo Cert.ReferenceIdeal
  Cert.ReferenceIdeal.Gen Cert.ReferenceIdeal.Value
open Cert.ReferenceIdeal.Step (State step init b15 b24 b33 b38 b43 b47 R_main_v4)

variable {F : FTy → Type} [FloatOps F]

/-- The state a valuation of the program's arrays holds. -/
def held (V : Valuation τ sig (Elt F)) : State F where
  main_v3_10 := V (Proc.devRef .tc main_v3_10)
  main_v3_11 := V (Proc.devRef .tc main_v3_11)
  main_v3_12 := V (Proc.devRef .tc main_v3_12)
  main_v3_0 := V (Proc.devRef .tc main_v3_0)
  main_v3_1 := V (Proc.devRef .tc main_v3_1)
  main_v3_2 := V (Proc.devRef .tc main_v3_2)
  main_v3_3 := V (Proc.devRef .tc main_v3_3)
  main_v3_4 := V (Proc.devRef .tc main_v3_4)
  main_v3_5 := V (Proc.devRef .tc main_v3_5)
  main_v3_6 := V (Proc.devRef .tc main_v3_6)
  main_v3_7 := V (Proc.devRef .tc main_v3_7)
  main_v3_8 := V (Proc.devRef .tc main_v3_8)

/-- The valuation's counter stands at trip `n`. -/
def At (V : Valuation τ sig (Elt F)) (n : ℕ) : Prop :=
  V (Proc.devRef .tc main_v3_9) = constantI S_ 32 (BitVec.ofNat 32 n)

variable (V : Valuation τ sig (Elt F)) (n : ℕ)

/-- A trip adds one to the counter. -/
theorem counter_next (h : At V n) : At (STEP V) (n + 1) := by
  unfold At at h ⊢
  rw [STEP_main_v3_9]
  unfold step_main_v3_9
  rw [h]
  funext i
  show BitVec.ofNat 32 n + 1#32 = BitVec.ofNat 32 (n + 1)
  simp only [BitVec.ofNat_add]

/-- The trip's hidden state. -/
theorem hidden_at : res_main_while0b_v17 V = b15 n (held V) := rfl

/-- The trip's logits. -/
theorem logit_at (h : At V n) : res_main_while0b_v25 V = b24 n (held V) := by
  unfold At at h
  unfold res_main_while0b_v25
  rw [hidden_at V n, h]
  rfl

/-- The trip's exponentials. -/
theorem expo_at (h : At V n) : res_main_while0b_v32 V = b33 n (held V) := by
  unfold res_main_while0b_v32
  rw [logit_at V n h]
  rfl

/-- The trip's soft samples. -/
theorem soft_at (h : At V n) : res_main_while0b_v36 V = b38 n (held V) := by
  unfold res_main_while0b_v36
  rw [expo_at V n h]
  rfl

/-- The embedded input after a trip. -/
theorem input_next (h : At V n) : step_main_v3_11 V = b43 n (held V) := by
  unfold step_main_v3_11
  rw [soft_at V n h]
  rfl

/-- The samples' array after a trip. -/
theorem samples_next (h : At V n) : step_main_v3_12 V = b47 n (held V) := by
  unfold At at h
  unfold step_main_v3_12
  rw [soft_at V n h, h]
  rfl

/-- A trip takes the state to the next. -/
theorem held_next (h : At V n) : held (STEP V) = step n (held V) := by
  unfold held step
  rw [STEP_main_v3_10, STEP_main_v3_11, STEP_main_v3_12, STEP_main_v3_0, STEP_main_v3_1, STEP_main_v3_2, STEP_main_v3_3,
    STEP_main_v3_4, STEP_main_v3_5, STEP_main_v3_6, STEP_main_v3_7, STEP_main_v3_8, input_next V n h, samples_next V n h]
  rfl

/-- The state the first trip starts from, of the arguments. -/
abbrev initial (m : (ℓ : Loc nD τ sig) → Buf (Elt F) ℓ) (c : Dev nD) : State F :=
  init (m ((c.tc : Thread nD τ).loc main_arg1)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg0))
    (m ((c.tc : Thread nD τ).loc main_arg2))

variable (m : (ℓ : Loc nD τ sig) → Buf (Elt F) ℓ) (c : Dev nD)

set_option maxRecDepth 65536 in
set_option maxHeartbeats 1000000 in
/-- The operations before the loop set the counter to zero. -/
theorem counter_zero : At (entryContents preI m c) 0 := by
  unfold At
  simp only [entryContents, afterL_cons, afterL_nil]
  after_reads_simp
  rfl

set_option maxRecDepth 65536 in
set_option maxHeartbeats 1000000 in
/-- The operations before the loop leave the initial state. -/
theorem held_zero : held (entryContents preI m c) = initial m c := by
  unfold held initial init
  congr 1 <;> (simp only [entryContents, afterL_cons, afterL_nil]; after_reads_simp) <;> rfl

/-- The states of the loop from a first one. -/
def iter (s : State F) : ℕ → State F
  | 0 => s
  | n + 1 => step n (iter s n)

/-- After `n` trips the counter stands at `n` and the valuation holds the `n`-th state. -/
theorem held_iter : ∀ n, At (STEP^[n] (entryContents preI m c)) n
    ∧ held (STEP^[n] (entryContents preI m c)) = iter (initial m c) n
  | 0 => ⟨counter_zero m c, held_zero m c⟩
  | n + 1 => by
    have h := held_iter n
    rw [Function.iterate_succ_apply']
    exact ⟨counter_next _ n h.1, (held_next _ n h.1).trans (congrArg (step n) h.2)⟩

/-- The closing operation reads the held state's samples. -/
theorem out_held : out_main_v4 V = R_main_v4 (held V) := rfl

/-- What the closing operation makes of the last valuation is what it makes of the last state. -/
theorem out_eq : out_main_v4 (STEP^[12] (entryContents preI m c)) = R_main_v4 (iter (initial m c) 12) :=
  (out_held _).trans (congrArg R_main_v4 (held_iter m c 12).2)

end Cert.Decoder.RefRun

end
-- ==== Proof.RefValue.lean ====
/-
  The reference's result: trip after trip the state holds what the rows carry and the soft samples so far, so the state
  after the twelfth trip holds every sample, and the closing transpose makes the array row-major.
-/
module

public import proofs.«01_k».proof.Proof.RefStep
public import proofs.«01_k».proof.Proof.RefRun

@[expose] public section

set_option maxRecDepth 16384

noncomputable section

namespace Cert.Decoder.RefValue

open Idealize.ShloMosaic Idealize.ShloMosaic.TcCoe Idealize.SL.Sem Cert.ReferenceIdeal Cert.ReferenceIdeal.Gen
  Cert.ReferenceIdeal.Step Cert.Decoder Cert.Decoder.RefStep Cert.Decoder.RefRun

variable (s : State Ideal)

/-- No trip changes the weights. -/
theorem iter_wts : ∀ n, wts (iter s n) = wts s
  | 0 => rfl
  | n + 1 => iter_wts n

/-- No trip changes the noise. -/
theorem iter_noise : ∀ n, (iter s n).main_v3_0 = s.main_v3_0
  | 0 => rfl
  | n + 1 => iter_noise n

/-- What row `r` carries before trip `n`. -/
abbrev carries (r : Fin 4096) (n : ℕ) : (Fin 1024 → EReal) × (Fin 256 → EReal) :=
  carried (wts s) (hrow s r) (erow s r) (noise s.main_v3_0 r) n

/-- Row `r`'s soft sample at step `n`. -/
abbrev samples (r : Fin 4096) (n : ℕ) : Fin 1024 → EReal :=
  sample (wts s) (hrow s r) (erow s r) (noise s.main_v3_0 r) n

/-- A trip that starts from what the rows carry computes the next hidden state. -/
theorem hidden_of (n : ℕ) (r : Fin 4096) (hc : (hrow (iter s n) r, erow (iter s n) r) = carries s r n) :
    (fun k => b15 n (iter s n) (ix2 r k)) = cell (wts s) (carries s r n).1 (carries s r n).2 := by
  funext k
  rw [hidden_apply n (iter s n) r k, iter_wts, ← hc]

/-- A trip that starts from what the rows carry computes the row's soft sample. -/
theorem soft_of (n : ℕ) (hn : n < 12) (r : Fin 4096) (hc : (hrow (iter s n) r, erow (iter s n) r) = carries s r n) :
    (fun k => b38 n (iter s n) (ix2 r k)) = samples s r n := by
  have e1 : (fun k => b24 n (iter s n) (ix2 r k))
      = logit (wts s) (cell (wts s) (carries s r n).1 (carries s r n).2) (noise s.main_v3_0 r n) := by
    funext k
    rw [logit_apply n (iter s n) hn r k, hidden_of s n r hc, iter_wts, grow, iter_noise]
  have e2 : (fun k => b33 n (iter s n) (ix2 r k)) = expo (fun k => b24 n (iter s n) (ix2 r k)) :=
    funext (expo_apply n (iter s n) r)
  have e3 : (fun k => b38 n (iter s n) (ix2 r k)) = normed (fun k => b33 n (iter s n) (ix2 r k)) :=
    funext (soft_apply n (iter s n) r)
  rw [e3, e2, e1]
  rfl

/-- Before trip `n` the state holds what every row carries. -/
theorem carries_eq (r : Fin 4096) : ∀ n, n ≤ 12 → (hrow (iter s n) r, erow (iter s n) r) = carries s r n
  | 0, _ => rfl
  | n + 1, hn => by
    have hc := carries_eq r n (by omega)
    refine Prod.ext ?_ ?_
    · exact (hidden_of s n r hc).trans (carried_succ_fst _ _ _ _ n).symm
    · refine Eq.trans (funext fun k => ?_) (carried_succ_snd _ _ _ _ n).symm
      refine (embed_apply n (iter s n) r k).trans ?_
      rw [soft_of s n (by omega) r hc, iter_wts]

/-- Before trip `n` the state holds the soft samples of the earlier steps. -/
theorem written (r : Fin 4096) (j : Fin 1024) (a : Fin 12) : ∀ n, n ≤ 12 → a.val < n →
    (iter s n).main_v3_12 (ix3 a r j) = samples s r a.val j
  | 0, _, h => absurd h (Nat.not_lt_zero _)
  | n + 1, hn, h => by
    refine (update_apply n (iter s n) (by omega) a r j).trans ?_
    by_cases e : a.val = n
    · rw [if_pos e, e]
      exact congrFun (soft_of s n (by omega) r (carries_eq s r n (by omega))) j
    · rw [if_neg e]
      exact written r j a n (by omega) (by omega)

variable (m : (ℓ : Loc nD τ sig) → Buf (Elt Ideal) ℓ) (c : Dev nD)

/-- The weights, of the reference's arguments. -/
abbrev W : Weights :=
  weights (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7)) (m ((c.tc : Thread nD τ).loc main_arg8))
    (m ((c.tc : Thread nD τ).loc main_arg9)) (m ((c.tc : Thread nD τ).loc main_arg10))

/-- The reference's result, of its arguments. -/
abbrev res : FVec Ideal S4096x12x1024 .f32 :=
  result (m ((c.tc : Thread nD τ).loc main_arg0)) (m ((c.tc : Thread nD τ).loc main_arg1))
    (m ((c.tc : Thread nD τ).loc main_arg2)) (W m c)

/-- The first hidden state is the target's row. -/
theorem first_hidden (x : FVec Ideal S512x8x1024 .f32) (y : FVec Ideal S256 .f32) (r : Fin 4096) (k : Fin 1024) :
    A_main_v0 (F := Ideal) x y (ix2 r k) = start x r k := by
  unfold start
  pointwise [A_main_v0]

/-- The first embedded input is the start row. -/
theorem first_input (x : FVec Ideal S512x8x1024 .f32) (y : FVec Ideal S256 .f32) (r : Fin 4096) (k : Fin 256) :
    A_main_v1 (F := Ideal) x y (ix2 r k) = first y k := by
  unfold first
  pointwise [A_main_v1]

/-- The transpose of the twelfth state's array is the result. -/
theorem res_eq : R_main_v4 (iter (initial m c) 12) = res m c := by
  have e : ∀ (a : Fin 12) (r : Fin 4096) (j : Fin 1024),
      (iter (initial m c) 12).main_v3_12 (ix3 a r j) = res m c (ix3 r a j) := fun a r j => by
    rw [written _ r j a 12 le_rfl a.isLt]
    have eh : hrow (initial m c) r = start (m ((c.tc : Thread nD τ).loc main_arg0)) r :=
      funext (first_hidden (m ((c.tc : Thread nD τ).loc main_arg0)) (m ((c.tc : Thread nD τ).loc main_arg2)) r)
    have ee : erow (initial m c) r = first (m ((c.tc : Thread nD τ).loc main_arg2)) :=
      funext (first_input (m ((c.tc : Thread nD τ).loc main_arg0)) (m ((c.tc : Thread nD τ).loc main_arg2)) r)
    show sample (wts (initial m c)) (hrow (initial m c) r) (erow (initial m c) r) (noise (initial m c).main_v3_0 r) a.val j = _
    rw [eh, ee]
    rfl
  funext i
  idx_vars i
  rw [← e]
  pointwise [R_main_v4]

/-- Every run of the reference ends with the result at its place and the arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1.trans ((out_eq m c).trans (res_eq m c)), (h c).2⟩)
    (Cert.ReferenceIdeal.Value.run (F := Ideal) m ρ)

end Cert.Decoder.RefValue

end
-- ==== Proof.lean ====
/-
  The five claims assembled: the three programs leave their arguments and their semaphores as they found them, the kernel
  program is its own idealization, and over the extended reals the kernel's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Written
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- Every run of the reference leaves its arguments unchanged and its semaphores at zero. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.Decoder.RefValue.run m ρ)

/-- From arguments that agree, the kernel and the reference end with the same result. -/
theorem algebraic : Cert.algebraic_KernelIdeal_ReferenceIdeal := fun m ρ m' ρ' _ hagree => by
  refine ⟨fun c => Cert.Decoder.Written.res m c, Cert.Decoder.Written.run m ρ, ?_⟩
  refine (θ_run Cert.ReferenceIdeal.defs _ _).mono (fun _ h c => ⟨(h c).1.trans ?_, (h c).2⟩)
    (Cert.Decoder.RefValue.run m' ρ')
  obtain ⟨e0, e1, e2, e3, e4, e5, e6, e7, e8, e9, e10⟩ := hagree c
  show Cert.Decoder.result _ _ _ (Cert.Decoder.weights _ _ _ _ _ _ _ _) = _
  rw [e0, e1, e2, e3, e4, e5, e6, e7, e8, e9, e10]

/-- The five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
